-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x256x256 : Shape := ⟨4, ![2, 128, 256, 256]⟩
abbrev S2x128x256 : Shape := ⟨3, ![2, 128, 256]⟩
abbrev S1x128x64x256 : Shape := ⟨4, ![1, 128, 64, 256]⟩
abbrev S1x128x256 : Shape := ⟨3, ![1, 128, 256]⟩
abbrev S134x64x256 : Shape := ⟨3, ![134, 64, 256]⟩
abbrev S7x128x16x256 : Shape := ⟨4, ![7, 128, 16, 256]⟩
abbrev S128x64x256 : Shape := ⟨3, ![128, 64, 256]⟩
abbrev S128x256 : Shape := ⟨2, ![128, 256]⟩
abbrev S3x64x256 : Shape := ⟨3, ![3, 64, 256]⟩
abbrev S128x1x256 : Shape := ⟨3, ![128, 1, 256]⟩
abbrev S128x16x256 : Shape := ⟨3, ![128, 16, 256]⟩
abbrev S1x128x16x256 : Shape := ⟨4, ![1, 128, 16, 256]⟩
abbrev S1x8x16x256 : Shape := ⟨4, ![1, 8, 16, 256]⟩
abbrev S8x16x256 : Shape := ⟨3, ![8, 16, 256]⟩

abbrev nBuf : Space → Nat
  | .hbm => 3
  | .vmem => 8
  | .smem => 0
  | _ => 0

abbrev bufTy : (tb : Table) → Fin (tcTables nBuf tb) → BufTy
  | .hbm, ⟨0, _⟩ => ⟨S2x128x256x256, .f32⟩
  | .hbm, ⟨1, _⟩ => ⟨S2x128x256, .f32⟩
  | .hbm, ⟨2, _⟩ => ⟨S2x128x256x256, .f32⟩
  | .local _ .vmem, ⟨0, _⟩ => ⟨S1x128x64x256, .f32⟩
  | .local _ .vmem, ⟨1, _⟩ => ⟨S1x128x64x256, .f32⟩
  | .local _ .vmem, ⟨2, _⟩ => ⟨S1x128x256, .f32⟩
  | .local _ .vmem, ⟨3, _⟩ => ⟨S1x128x256, .f32⟩
  | .local _ .vmem, ⟨4, _⟩ => ⟨S1x128x64x256, .f32⟩
  | .local _ .vmem, ⟨5, _⟩ => ⟨S1x128x64x256, .f32⟩
  | .local _ .vmem, ⟨6, _⟩ => ⟨S134x64x256, .bf16⟩
  | .local _ .vmem, ⟨7, _⟩ => ⟨S7x128x16x256, .bf16⟩
  | _, _ => ⟨S2x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x128x256x256 : Shape := ⟨4, ![2, 128, 256, 256]⟩
abbrev S2x128x256 : Shape := ⟨3, ![2, 128, 256]⟩
abbrev S_ : Shape := ⟨0, ![]⟩
abbrev S2x128x1x256 : Shape := ⟨4, ![2, 128, 1, 256]⟩
abbrev S128 : Shape := ⟨1, ![128]⟩
abbrev S1x128x1x1 : Shape := ⟨4, ![1, 128, 1, 1]⟩
abbrev S2x128x256x256x1 : Shape := ⟨5, ![2, 128, 256, 256, 1]⟩
abbrev S1 : Shape := ⟨1, ![1]⟩
abbrev S1x1x1x1x1 : Shape := ⟨5, ![1, 1, 1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S2x128x256x256, .f32⟩
  | .hbm, ⟨1, _⟩ => ⟨S2x128x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2x128x256, .f32⟩
  | .hbm, ⟨6, _⟩ => ⟨S2x128x256, .f32⟩
  | .hbm, ⟨7, _⟩ => ⟨S_, .f32⟩
  | .hbm, ⟨8, _⟩ => ⟨S2x128x256, .f32⟩
  | .hbm, ⟨9, _⟩ => ⟨S2x128x256, .f32⟩
  | .hbm, ⟨10, _⟩ => ⟨S2x128x1x256, .f32⟩
  | .hbm, ⟨11, _⟩ => ⟨S2x128x256x256, .f32⟩
  | .hbm, ⟨12, _⟩ => ⟨S128, .f32⟩
  | .hbm, ⟨13, _⟩ => ⟨S1x128x1x1, .f32⟩
  | .hbm, ⟨14, _⟩ => ⟨S2x128x256x256, .f32⟩
  | .hbm, ⟨15, _⟩ => ⟨S2x128x256x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x128x256x256, .f32⟩
  | .hbm, ⟨20, _⟩ => ⟨S2x128x256x256, .f32⟩
  | .hbm, ⟨21, _⟩ => ⟨S_, .f32⟩
  | .hbm, ⟨22, _⟩ => ⟨S2x128x256x256, .f32⟩
  | .hbm, ⟨23, _⟩ => ⟨S2x128x256x256, .f32⟩
  | .hbm, ⟨24, _⟩ => ⟨S_, .f32⟩
  | .hbm, ⟨25, _⟩ => ⟨S2x128x256x256, .f32⟩
  | .hbm, ⟨26, _⟩ => ⟨S2x128x256x256, .f32⟩
  | .hbm, ⟨27, _⟩ => ⟨S_, .f32⟩
  | .hbm, ⟨28, _⟩ => ⟨S2x128x256x256, .f32⟩
  | .hbm, ⟨29, _⟩ => ⟨S2x128x256x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x128x256x256, .f32⟩
  | .hbm, ⟨34, _⟩ => ⟨S2x128x256x256, .f32⟩
  | .hbm, ⟨35, _⟩ => ⟨S_, .f32⟩
  | .hbm, ⟨36, _⟩ => ⟨S2x128x256x256, .f32⟩
  | .hbm, ⟨37, _⟩ => ⟨S2x128x256x256, .f32⟩
  | .hbm, ⟨38, _⟩ => ⟨S2x128x256x256, .f32⟩
  | .hbm, ⟨39, _⟩ => ⟨S2x128x256x256, .f32⟩
  | .hbm, ⟨40, _⟩ => ⟨S2x128x256x256, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S2x128x256x256, .i32⟩
  | .hbm, ⟨45, _⟩ => ⟨S2x128x256x256, .i32⟩
  | .hbm, ⟨46, _⟩ => ⟨S_, .i32⟩
  | .hbm, ⟨47, _⟩ => ⟨S2x128x256x256, .i32⟩
  | .hbm, ⟨48, _⟩ => ⟨S2x128x256x256, .i32⟩
  | .hbm, ⟨49, _⟩ => ⟨S_, .i32⟩
  | .hbm, ⟨50, _⟩ => ⟨S2x128x256x256, .i32⟩
  | .hbm, ⟨51, _⟩ => ⟨S2x128x256x256, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S2x128x256x256, .i32⟩
  | .hbm, ⟨56, _⟩ => ⟨S2x128x256x256, .i32⟩
  | .hbm, ⟨57, _⟩ => ⟨S_, .i32⟩
  | .hbm, ⟨58, _⟩ => ⟨S2x128x256x256, .i32⟩
  | .hbm, ⟨59, _⟩ => ⟨S2x128x256x256, .i32⟩
  | .hbm, ⟨60, _⟩ => ⟨S_, .i32⟩
  | .hbm, ⟨61, _⟩ => ⟨S2x128x256x256, .i32⟩
  | .hbm, ⟨62, _⟩ => ⟨S2x128x256x256, .i1⟩
  | .hbm, ⟨63, _⟩ => ⟨S_, .i32⟩
  | .hbm, ⟨64, _⟩ => ⟨S2x128x256x256, .i32⟩
  | .hbm, ⟨65, _⟩ => ⟨S2x128x256x256, .i32⟩
  | .hbm, ⟨66, _⟩ => ⟨S2x128x256x256, .i32⟩
  | .hbm, ⟨67, _⟩ => ⟨S2x128x256x256x1, .i32⟩
  | .hbm, ⟨68, _⟩ => ⟨S1, .i32⟩
  | .hbm, ⟨69, _⟩ => ⟨S_, .i32⟩
  | .hbm, ⟨70, _⟩ => ⟨S2x128x256x256x1, .i32⟩
  | .hbm, ⟨71, _⟩ => ⟨S2x128x256x256x1, .i1⟩
  | .hbm, ⟨72, _⟩ => ⟨S1x1x1x1x1, .i32⟩
  | .hbm, ⟨73, _⟩ => ⟨S2x128x256x256x1, .i32⟩
  | .hbm, ⟨74, _⟩ => ⟨S2x128x256x256x1, .i1⟩
  | .hbm, ⟨75, _⟩ => ⟨S2x128x256x256x1, .i1⟩
  | .hbm, ⟨76, _⟩ => ⟨S_, .i1⟩
  | .hbm, ⟨77, _⟩ => ⟨S2x128x256x256, .i1⟩
  | .hbm, ⟨78, _⟩ => ⟨S2x128x256x256, .f32⟩
  | .hbm, ⟨79, _⟩ => ⟨S_, .f32⟩
  | .hbm, ⟨80, _⟩ => ⟨S2x128x256x256, .f32⟩
  | .hbm, ⟨81, _⟩ => ⟨S2x128x256x256, .f32⟩
  | .hbm, ⟨82, _⟩ => ⟨S_, .i32⟩
  | .hbm, ⟨83, _⟩ => ⟨S2x128x256x256, .i32⟩
  | .hbm, ⟨84, _⟩ => ⟨S2x128x256x256, .i1⟩
  | .hbm, ⟨85, _⟩ => ⟨S_, .i32⟩
  | .hbm, ⟨86, _⟩ => ⟨S2x128x256x256, .i32⟩
  | .hbm, ⟨87, _⟩ => ⟨S2x128x256x256, .i32⟩
  | .hbm, ⟨88, _⟩ => ⟨S2x128x256x256, .i32⟩
  | .hbm, ⟨89, _⟩ => ⟨S2x128x256x256x1, .i32⟩
  | .hbm, ⟨90, _⟩ => ⟨S1, .i32⟩
  | .hbm, ⟨91, _⟩ => ⟨S_, .i32⟩
  | .hbm, ⟨92, _⟩ => ⟨S2x128x256x256x1, .i32⟩
  | .hbm, ⟨93, _⟩ => ⟨S2x128x256x256x1, .i1⟩
  | .hbm, ⟨94, _⟩ => ⟨S1x1x1x1x1, .i32⟩
  | .hbm, ⟨95, _⟩ => ⟨S2x128x256x256x1, .i32⟩
  | .hbm, ⟨96, _⟩ => ⟨S2x128x256x256x1, .i1⟩
  | .hbm, ⟨97, _⟩ => ⟨S2x128x256x256x1, .i1⟩
  | .hbm, ⟨98, _⟩ => ⟨S_, .i1⟩
  | .hbm, ⟨99, _⟩ => ⟨S2x128x256x256, .i1⟩
  | .hbm, ⟨100, _⟩ => ⟨S2x128x256x256, .f32⟩
  | .hbm, ⟨101, _⟩ => ⟨S_, .f32⟩
  | .hbm, ⟨102, _⟩ => ⟨S2x128x256x256, .f32⟩
  | .hbm, ⟨103, _⟩ => ⟨S2x128x256x256, .f32⟩
  | .hbm, ⟨104, _⟩ => ⟨S_, .f32⟩
  | .hbm, ⟨105, _⟩ => ⟨S2x128x256x256, .f32⟩
  | .hbm, ⟨106, _⟩ => ⟨S2x128x256x256, .f32⟩
  | .hbm, ⟨107, _⟩ => ⟨S2x128x256x256, .f32⟩
  | .hbm, ⟨108, _⟩ => ⟨S2x128x256x256, .f32⟩
  | .hbm, ⟨109, _⟩ => ⟨S2x128x256x256, .f32⟩
  | _, _ => ⟨S2x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_cst_6 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c : Ref sig .tc := ⟨.hbm, 41, rfl⟩
abbrev main_c_7 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v16 : Ref sig .tc := ⟨.hbm, 48, rfl⟩
abbrev main_c_8 : Ref sig .tc := ⟨.hbm, 49, rfl⟩
abbrev main_v17 : Ref sig .tc := ⟨.hbm, 50, rfl⟩
abbrev main_v18 : Ref sig .tc := ⟨.hbm, 51, rfl⟩
abbrev main_c_9 : Ref sig .tc := ⟨.hbm, 52, rfl⟩
abbrev main_c_10 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v19 : Ref sig .tc := ⟨.hbm, 59, rfl⟩
abbrev main_call5_c : Ref sig .tc := ⟨.hbm, 60, rfl⟩
abbrev main_call5_v0 : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_c_1 : Ref sig .tc := ⟨.hbm, 68, rfl⟩
abbrev main_call5_c_2 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_c_3 : Ref sig .tc := ⟨.hbm, 76, rfl⟩
abbrev main_call5_v12 : Ref sig .tc := ⟨.hbm, 77, rfl⟩
abbrev main_call5_v13 : Ref sig .tc := ⟨.hbm, 78, rfl⟩
abbrev main_call5_cst : Ref sig .tc := ⟨.hbm, 79, rfl⟩
abbrev main_call5_v14 : Ref sig .tc := ⟨.hbm, 80, rfl⟩
abbrev main_v20 : Ref sig .tc := ⟨.hbm, 81, rfl⟩
abbrev main_call6_c : Ref sig .tc := ⟨.hbm, 82, rfl⟩
abbrev main_call6_v0 : Ref sig .tc := ⟨.hbm, 83, rfl⟩
abbrev main_call6_v1 : Ref sig .tc := ⟨.hbm, 84, rfl⟩
abbrev main_call6_c_0 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_c_1 : Ref sig .tc := ⟨.hbm, 90, rfl⟩
abbrev main_call6_c_2 : Ref sig .tc := ⟨.hbm, 91, rfl⟩
abbrev main_call6_v6 : Ref sig .tc := ⟨.hbm, 92, rfl⟩
abbrev main_call6_v7 : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_3 : Ref sig .tc := ⟨.hbm, 98, rfl⟩
abbrev main_call6_v12 : Ref sig .tc := ⟨.hbm, 99, rfl⟩
abbrev main_call6_v13 : Ref sig .tc := ⟨.hbm, 100, rfl⟩
abbrev main_call6_cst : Ref sig .tc := ⟨.hbm, 101, rfl⟩
abbrev main_call6_v14 : Ref sig .tc := ⟨.hbm, 102, rfl⟩
abbrev main_v21 : Ref sig .tc := ⟨.hbm, 103, rfl⟩
abbrev main_cst_11 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩

abbrev nD : Nat := 1
abbrev τ : Topo := Topo.v7x

variable {F : FTy → Type} [FloatOps F]
-- ==== Proof.Blend.lean ====
/- The mathematics of the resampler, with no program in it: the band position as a real number, the seven
   triangular weights around a band, and the equation of the weighted sum of seven neighbours with the linear
   interpolation between two. -/
module

public import Idealize.ShloMosaic.PureOps.Ideal
public import Mathlib.Tactic.IntervalCases
public import Mathlib.Tactic.Linarith
public import Mathlib.Tactic.NormNum

@[expose] public section

noncomputable section

namespace Cert.Blend

/-- The larger of two reals, as an extended real. -/
theorem coe_max (a b : ℝ) : ((max a b : ℝ) : EReal) = max (a : EReal) b := EReal.coe_strictMono.monotone.map_max

/-- The smaller of two reals, as an extended real. -/
theorem coe_min (a b : ℝ) : ((min a b : ℝ) : EReal) = min (a : EReal) b := EReal.coe_strictMono.monotone.map_min

/-- The weight that a neighbour at signed distance `t` from the position gets: a triangle of half-width one. -/
def tent (t : ℝ) : ℝ := max (1 - |t|) 0

/-- A tent is zero at distance one and beyond. -/
theorem tent_of_one_le {t : ℝ} (h : 1 ≤ |t|) : tent t = 0 := max_eq_right (by linarith)

/-- A tent falls linearly within distance one. -/
theorem tent_of_abs_le {t : ℝ} (h : |t| ≤ 1) : tent t = 1 - |t| := max_eq_left (by linarith)

/-- In the extended reals, the printed chain of operations on two real numbers is the tent of their difference. -/
theorem tent_coe (p q : ℝ) :
    max ((1 : EReal) - max ((p : EReal) - (q : EReal)) (-((p : EReal) - (q : EReal)))) 0 = ((tent (p - q) : ℝ) : EReal) := by
  unfold tent
  rw [← EReal.coe_sub, ← EReal.coe_neg, ← coe_max, ← EReal.coe_one, ← EReal.coe_sub, ← EReal.coe_zero,
    ← coe_max]
  rfl

/-- A term of the sum whose neighbour lies at least one band away vanishes, whatever the neighbour holds (an
    infinity included: zero times it is zero). -/
theorem tent_mul_of_far {t : ℝ} (h : 1 ≤ |t|) (x : EReal) : ((tent t : ℝ) : EReal) * x = 0 := by
  rw [tent_of_one_le h, EReal.coe_zero, zero_mul]

/-- The sum of the seven neighbours of band `n` (held in `xp`, three places further on), weighted by their tents
    at the position `p`, is the linear interpolation at `p` between band `⌊p⌋` and the next, the last band being
    its own next. The position lies in `[0, 127]`, less than three bands from `n`. -/
theorem blend_eq (p : ℝ) (n : ℕ) (h0 : 0 ≤ p) (h1 : p ≤ 127) (hl : -3 ≤ p - n) (hr : p - n < 3) (xp : ℕ → EReal)
    (i0 i1 : ℕ) (hi0 : (i0 : ℤ) = ⌊p⌋) (hi1 : i1 = min (i0 + 1) 127) :
    ((tent (p - (n + -3)) : ℝ) : EReal) * xp n + ((tent (p - (n + -2)) : ℝ) : EReal) * xp (n + 1)
      + ((tent (p - (n + -1)) : ℝ) : EReal) * xp (n + 2) + ((tent (p - (n + 0)) : ℝ) : EReal) * xp (n + 3)
      + ((tent (p - (n + 1)) : ℝ) : EReal) * xp (n + 4) + ((tent (p - (n + 2)) : ℝ) : EReal) * xp (n + 5)
      + ((tent (p - (n + 3)) : ℝ) : EReal) * xp (n + 6)
      = xp (i0 + 3) * ((1 : EReal) - ((p - (⌊p⌋ : ℝ) : ℝ) : EReal)) + xp (i1 + 3) * ((p - (⌊p⌋ : ℝ) : ℝ) : EReal) := by
  have hf0 : (⌊p⌋ : ℝ) ≤ p := Int.floor_le p
  have hf1 : p < ⌊p⌋ + 1 := Int.lt_floor_add_one p
  rw [← hi0] at hf0 hf1 ⊢
  rw [Int.cast_natCast] at hf0 hf1 ⊢
  -- the offset of the lower band from `n - 3`
  obtain ⟨j, hj6, hj⟩ : ∃ j : ℕ, j < 6 ∧ i0 + 3 = n + j := by
    have a : (n : ℝ) < (i0 + 4 : ℝ) := by linarith
    have b : (i0 : ℝ) < (n + 3 : ℝ) := by linarith
    have a' : n < i0 + 4 := by exact_mod_cast a
    have b' : i0 < n + 3 := by exact_mod_cast b
    exact ⟨i0 + 3 - n, by omega, by omega⟩
  have hjr : (i0 : ℝ) + 3 = n + j := by exact_mod_cast hj
  -- the two weights that remain
  have w0 : tent (p - i0) = 1 - (p - i0) := by
    rw [tent_of_abs_le, abs_of_nonneg] <;> try rw [abs_of_nonneg]
    all_goals linarith
  have w1 : tent (p - (i0 + 1)) = p - i0 := by
    rw [tent_of_abs_le, abs_of_nonpos] <;> try rw [abs_of_nonpos]
    all_goals linarith
  -- the upper band: past the last, its weight is zero
  have up : ((tent (p - (i0 + 1)) : ℝ) : EReal) * xp (n + j + 1) = xp (i1 + 3) * ((p - i0 : ℝ) : EReal) := by
    rcases le_or_gt (i0 + 1) 127 with hle | hgt
    · rw [w1, mul_comm, hi1, min_eq_left hle]
      congr 2; omega
    · have hi : i0 = 127 := by
        have : (i0 : ℝ) < 128 := by linarith
        have : i0 < 128 := by exact_mod_cast this
        omega
      have : p - i0 = 0 := by
        have : (i0 : ℝ) = 127 := by exact_mod_cast hi
        linarith
      rw [w1, this, EReal.coe_zero, zero_mul, mul_zero]
  have lo : ((tent (p - i0) : ℝ) : EReal) * xp (n + j) = xp (i0 + 3) * ((1 : EReal) - ((p - i0 : ℝ) : EReal)) := by
    rw [w0, mul_comm, hj, EReal.coe_sub, EReal.coe_one]
  have far : ∀ (c : ℝ) (x : EReal), (c ≤ j - 1 ∨ (j : ℝ) + 2 ≤ c) → ((tent (p - (n + (c - 3))) : ℝ) : EReal) * x = 0 := by
    intro c x hc
    apply tent_mul_of_far
    rcases hc with hc | hc
    · rw [le_abs]; left; linarith
    · rw [le_abs]; right; linarith
  rw [← lo, ← up]
  have e (c d : ℝ) (h : d = c - 3) (x : EReal) (hc : c ≤ j - 1 ∨ (j : ℝ) + 2 ≤ c) :
      ((tent (p - (n + d)) : ℝ) : EReal) * x = 0 := by rw [h]; exact far c x hc
  have s0 (c : ℝ) (h : c = (j : ℝ) - 3) : tent (p - i0) = tent (p - (n + c)) := by
    congr 1; rw [h]; linarith
  have s1 (c : ℝ) (h : c = (j : ℝ) - 2) : tent (p - (i0 + 1)) = tent (p - (n + c)) := by
    congr 1; rw [h]; linarith
  clear up lo far w0 w1
  interval_cases j
  · rw [s0 (-3) (by norm_num), s1 (-2) (by norm_num), e 2 (-1) (by norm_num) _ (by norm_num), e 3 0 (by norm_num) _ (by norm_num),
      e 4 1 (by norm_num) _ (by norm_num), e 5 2 (by norm_num) _ (by norm_num), e 6 3 (by norm_num) _ (by norm_num)]
    simp
  · rw [s0 (-2) (by norm_num), s1 (-1) (by norm_num), e 0 (-3) (by norm_num) _ (by norm_num), e 3 0 (by norm_num) _ (by norm_num),
      e 4 1 (by norm_num) _ (by norm_num), e 5 2 (by norm_num) _ (by norm_num), e 6 3 (by norm_num) _ (by norm_num)]
    simp
  · rw [s0 (-1) (by norm_num), s1 0 (by norm_num), e 0 (-3) (by norm_num) _ (by norm_num), e 1 (-2) (by norm_num) _ (by norm_num),
      e 4 1 (by norm_num) _ (by norm_num), e 5 2 (by norm_num) _ (by norm_num), e 6 3 (by norm_num) _ (by norm_num)]
    simp
  · rw [s0 0 (by norm_num), s1 1 (by norm_num), e 0 (-3) (by norm_num) _ (by norm_num), e 1 (-2) (by norm_num) _ (by norm_num),
      e 2 (-1) (by norm_num) _ (by norm_num), e 5 2 (by norm_num) _ (by norm_num), e 6 3 (by norm_num) _ (by norm_num)]
    simp
  · rw [s0 1 (by norm_num), s1 2 (by norm_num), e 0 (-3) (by norm_num) _ (by norm_num), e 1 (-2) (by norm_num) _ (by norm_num),
      e 2 (-1) (by norm_num) _ (by norm_num), e 3 0 (by norm_num) _ (by norm_num), e 6 3 (by norm_num) _ (by norm_num)]
    simp
  · rw [s0 2 (by norm_num), s1 3 (by norm_num), e 0 (-3) (by norm_num) _ (by norm_num), e 1 (-2) (by norm_num) _ (by norm_num),
      e 2 (-1) (by norm_num) _ (by norm_num), e 3 0 (by norm_num) _ (by norm_num), e 4 1 (by norm_num) _ (by norm_num)]
    simp

/-- The factor 128/127 as the float word holds it. -/
def scale : ℝ := 8454660 / 8388608

/-- The position of a pixel of band `n` under the shift `s`, as the printed chain of operations computes it. -/
def pixE (n s : EReal) : EReal :=
  min ((127 : ℝ) : EReal)
    (max 0 (min ((127 : ℝ) : EReal) (max 0 (n + min ((2 : ℝ) : EReal) (max ((-2 : ℝ) : EReal) s))) * ((scale : ℝ) : EReal)
      - ((1 / 2 : ℝ) : EReal)))

/-- The weight of the neighbour `d` bands away from band `n`, as the printed chain of operations computes it. -/
def weightE (n s d : EReal) : EReal :=
  max (1 - max (pixE n s - (n + d)) (-(pixE n s - (n + d)))) 0

/-- The position is a real number in `[0, 127]`, at most three bands below band `n` and less than three above. -/
theorem pixE_real (n : ℕ) (hn : n < 128) (s : EReal) :
    ∃ p : ℝ, pixE ((n : ℝ) : EReal) s = (p : EReal) ∧ 0 ≤ p ∧ p ≤ 127 ∧ -3 ≤ p - n ∧ p - n < 3 := by
  obtain ⟨t, ht, ht0, ht1⟩ : ∃ t : ℝ, min ((2 : ℝ) : EReal) (max ((-2 : ℝ) : EReal) s) = (t : EReal) ∧ -2 ≤ t ∧ t ≤ 2 := by
    have hlo : ((-2 : ℝ) : EReal) ≤ min ((2 : ℝ) : EReal) (max ((-2 : ℝ) : EReal) s) := by
      refine le_min ?_ (le_max_of_le_left le_rfl)
      exact EReal.coe_le_coe_iff.2 (by norm_num)
    have hhi : min ((2 : ℝ) : EReal) (max ((-2 : ℝ) : EReal) s) ≤ ((2 : ℝ) : EReal) := min_le_left _ _
    have hb : min ((2 : ℝ) : EReal) (max ((-2 : ℝ) : EReal) s) ≠ ⊥ := ne_of_gt (lt_of_lt_of_le (EReal.bot_lt_coe _) hlo)
    have htop : min ((2 : ℝ) : EReal) (max ((-2 : ℝ) : EReal) s) ≠ ⊤ := ne_of_lt (lt_of_le_of_lt hhi (EReal.coe_lt_top _))
    refine ⟨(min ((2 : ℝ) : EReal) (max ((-2 : ℝ) : EReal) s)).toReal, (EReal.coe_toReal htop hb).symm, ?_, ?_⟩
    · rw [← EReal.coe_le_coe_iff, EReal.coe_toReal htop hb]; exact hlo
    · rw [← EReal.coe_le_coe_iff, EReal.coe_toReal htop hb]; exact hhi
  refine ⟨min 127 (max 0 (min 127 (max 0 (n + t)) * scale - 1 / 2)), ?_, ?_, ?_, ?_, ?_⟩
  · unfold pixE
    rw [ht, ← EReal.coe_add, ← EReal.coe_zero, ← coe_max,
      ← coe_min, ← EReal.coe_mul, ← EReal.coe_sub, ← coe_max, ← coe_min]
  · exact le_min (by norm_num) (le_max_left _ _)
  · exact min_le_left _ _
  all_goals
    have hn0 : (0 : ℝ) ≤ n := Nat.cast_nonneg n
    have hn1 : (n : ℝ) ≤ 127 := by exact_mod_cast Nat.le_of_lt_succ hn
    unfold scale
    rcases max_cases (0 : ℝ) (n + t) with ⟨e1, h1⟩ | ⟨e1, h1⟩ <;> rw [e1] <;>
    [rcases min_cases (127 : ℝ) 0 with ⟨e2, h2⟩ | ⟨e2, h2⟩; rcases min_cases (127 : ℝ) (n + t) with ⟨e2, h2⟩ | ⟨e2, h2⟩] <;> rw [e2] <;>
    (generalize hq : (_ : ℝ) * (8454660 / 8388608) - 1 / 2 = q
     rcases max_cases (0 : ℝ) q with ⟨e3, h3⟩ | ⟨e3, h3⟩ <;> rw [e3] <;>
     [rcases min_cases (127 : ℝ) 0 with ⟨e4, h4⟩ | ⟨e4, h4⟩; rcases min_cases (127 : ℝ) q with ⟨e4, h4⟩ | ⟨e4, h4⟩] <;> rw [e4] <;> linarith)

end Cert.Blend

end
-- ==== Proof.Words.lean ====
/- The float words that the two programs print, as real numbers. -/
module

public import proofs.«01_k».proof.Proof.Blend

@[expose] public section

noncomputable section

namespace Cert.Words

open Idealize.ShloMosaic

/-- The literal of the number -3. -/
theorem word_neg_three : Ideal.ofBits .f32 0xC0400000#32 = ((-3 : ℝ) : EReal) := by
  simp [Ideal.ofBits, Ideal.ieee, -EReal.coe_mul]; norm_num

/-- The literal of the number -2. -/
theorem word_neg_two : Ideal.ofBits .f32 0xC0000000#32 = ((-2 : ℝ) : EReal) := by
  simp [Ideal.ofBits, Ideal.ieee, -EReal.coe_mul]; norm_num

/-- The literal of the number -1. -/
theorem word_neg_one : Ideal.ofBits .f32 0xBF800000#32 = ((-1 : ℝ) : EReal) := by
  simp [Ideal.ofBits, Ideal.ieee, -EReal.coe_mul]; norm_num

/-- The literal of the number 1/2. -/
theorem word_half : Ideal.ofBits .f32 0x3F000000#32 = ((1 / 2 : ℝ) : EReal) := by
  simp [Ideal.ofBits, Ideal.ieee, -EReal.coe_mul]; norm_num

/-- The literal of the number 1. -/
theorem word_one : Ideal.ofBits .f32 0x3F800000#32 = ((1 : ℝ) : EReal) := by
  simp [Ideal.ofBits, Ideal.ieee, -EReal.coe_mul]; norm_num

/-- The literal of the number 2. -/
theorem word_two : Ideal.ofBits .f32 0x40000000#32 = ((2 : ℝ) : EReal) := by
  simp [Ideal.ofBits, Ideal.ieee, -EReal.coe_mul]; norm_num

/-- The literal of the number 3. -/
theorem word_three : Ideal.ofBits .f32 0x40400000#32 = ((3 : ℝ) : EReal) := by
  simp [Ideal.ofBits, Ideal.ieee, -EReal.coe_mul]; norm_num

/-- The literal of the number 127, the last band. -/
theorem word_last : Ideal.ofBits .f32 0x42FE0000#32 = ((127 : ℝ) : EReal) := by
  simp [Ideal.ofBits, Ideal.ieee, -EReal.coe_mul]; norm_num

/-- The literal by which the shifted band is scaled. -/
theorem word_scale : Ideal.ofBits .f32 0x3F810204#32 = ((Blend.scale : ℝ) : EReal) := by
  simp [Ideal.ofBits, Ideal.ieee, Blend.scale, -EReal.coe_mul]; norm_num

/-- The literal of the number 0. -/
theorem word_zero : Ideal.ofBits .f32 0x00000000#32 = 0 := by
  simp [Ideal.ofBits, Ideal.ieee]

/-- A band number of 32 bits, as a float, is the number. -/
theorem sitofp_band (b : Fin 128) : FloatOps.sitofp (F := Ideal) .f32 (BitVec.ofNat 32 (b : ℕ)) = (((b : ℕ) : ℝ) : EReal) := by
  show (((BitVec.ofNat 32 (b : ℕ)).toInt : ℝ) : EReal) = _
  rw [BitVec.toInt_eq_toNat_of_lt (by rw [BitVec.toNat_ofNat]; omega), BitVec.toNat_ofNat,
    Nat.mod_eq_of_lt (by omega), Int.cast_natCast]

end Cert.Words

end
-- ==== Proof.Model.lean ====
/- What the kernel and the reference both compute, as a function on extended reals: the linear interpolation along
   the bands at a shifted position, and its form as a weighted sum of seven neighbours. -/
module

public import proofs.«01_k».proof.Proof.Blend
public import Mathlib.Tactic.FinCases

@[expose] public section

noncomputable section

namespace Cert.Model

open Cert.Blend

/-- The position on the band axis that band `n` reads under the shift `s`. -/
def position (n : Fin 128) (s : EReal) : ℝ := (pixE (((n : ℕ) : ℝ) : EReal) s).toReal

/-- The band just below a position. -/
def lower (p : ℝ) : Fin 128 := ⟨min ⌊p⌋.toNat 127, by omega⟩

/-- The band after it, the last band being its own next. -/
def upper (p : ℝ) : Fin 128 := ⟨min (⌊p⌋.toNat + 1) 127, by omega⟩

/-- How far a position lies above the band just below it, in `[0, 1)`. -/
def fraction (p : ℝ) : EReal := ((p - (⌊p⌋ : ℝ) : ℝ) : EReal)

/-- The linear interpolation of a column `f` of 128 bands at the position of band `n` under the shift `s`. -/
def interpolate (f : Fin 128 → EReal) (n : Fin 128) (s : EReal) : EReal :=
  f (lower (position n s)) * (1 - fraction (position n s)) + f (upper (position n s)) * fraction (position n s)

/-- The position is a real number in `[0, 127]`, near its band. -/
theorem position_spec (n : Fin 128) (s : EReal) :
    pixE (((n : ℕ) : ℝ) : EReal) s = ((position n s : ℝ) : EReal) ∧ 0 ≤ position n s ∧ position n s ≤ 127
      ∧ -3 ≤ position n s - (n : ℕ) ∧ position n s - (n : ℕ) < 3 := by
  obtain ⟨p, hp, h⟩ := pixE_real n n.2 s
  have e : position n s = p := by rw [position, hp, EReal.toReal_coe]
  rw [e]
  exact ⟨hp, h⟩

/-- The band that row `r` of the column padded by three rows on either side holds. -/
def padRow (r : ℕ) : Fin 128 :=
  ⟨if r < 3 then r else if r < 131 then r - 3 else min (r - 6) 127, by split_ifs <;> omega⟩

/-- Row `i + 3` of the padded image is band `i`. -/
theorem padRow_add_three (i : ℕ) (h : i < 128) : padRow (i + 3) = ⟨i, h⟩ :=
  Fin.ext (by unfold padRow; dsimp only; split_ifs <;> omega)

/-- The weight of a neighbour is a tent of the distance from the position. -/
theorem weightE_eq (n : Fin 128) (s : EReal) (d : ℝ) :
    weightE (((n : ℕ) : ℝ) : EReal) s (d : EReal) = ((tent (position n s - ((n : ℕ) + d)) : ℝ) : EReal) := by
  rw [weightE, (position_spec n s).1, ← EReal.coe_add, tent_coe]

/-- The weighted sum of the seven neighbours in the padded column is the linear interpolation. -/
theorem taps_eq (f : Fin 128 → EReal) (n : Fin 128) (s : EReal) (d : Fin 7 → ℝ) (hd : ∀ k, d k = ((k : ℕ) : ℝ) - 3) :
    weightE (((n : ℕ) : ℝ) : EReal) s (d 0 : EReal) * f (padRow n)
      + weightE (((n : ℕ) : ℝ) : EReal) s (d 1 : EReal) * f (padRow (n + 1))
      + weightE (((n : ℕ) : ℝ) : EReal) s (d 2 : EReal) * f (padRow (n + 2))
      + weightE (((n : ℕ) : ℝ) : EReal) s (d 3 : EReal) * f (padRow (n + 3))
      + weightE (((n : ℕ) : ℝ) : EReal) s (d 4 : EReal) * f (padRow (n + 4))
      + weightE (((n : ℕ) : ℝ) : EReal) s (d 5 : EReal) * f (padRow (n + 5))
      + weightE (((n : ℕ) : ℝ) : EReal) s (d 6 : EReal) * f (padRow (n + 6))
      = interpolate f n s := by
  obtain ⟨-, h0, h1, hl, hr⟩ := position_spec n s
  have g0 : 0 ≤ ⌊position n s⌋ := Int.floor_nonneg.2 h0
  have g1 : ⌊position n s⌋ ≤ 127 := Int.floor_le_iff.2 (by push_cast; linarith)
  rw [show d 0 = -3 by rw [hd]; norm_num, show d 1 = -2 by rw [hd]; norm_num, show d 2 = -1 by rw [hd]; norm_num,
    show d 3 = 0 by rw [hd]; norm_num, show d 4 = 1 by rw [hd]; norm_num, show d 5 = 2 by rw [hd]; norm_num,
    show d 6 = 3 by rw [hd]; norm_num]
  simp only [weightE_eq]
  refine (blend_eq (position n s) n h0 h1 hl hr (fun r => f (padRow r)) (lower (position n s)) (upper (position n s))
    ?_ ?_).trans ?_
  · show ((min ⌊position n s⌋.toNat 127 : ℕ) : ℤ) = _
    omega
  · show min (⌊position n s⌋.toNat + 1) 127 = min (min ⌊position n s⌋.toNat 127 + 1) 127
    omega
  · show f (padRow _) * _ + f (padRow _) * _ = _
    rw [padRow_add_three _ (lower (position n s)).2, padRow_add_three _ (upper (position n s)).2]
    rfl

end Cert.Model
-- ==== Proof.KernelBlock.lean ====
/- What one grid point of the kernel leaves in its output block: at every index, the linear interpolation along the
   bands of the block's column, at the position the block's shift gives. -/
module

public import proofs.«01_k».proof.Proof.Gen.KernelIdeal.Frame
public import Idealize.ShloMosaic.Lib.Pipeline.ValueKit
public import Idealize.ShloMosaic.Lib.Pointwise
public import proofs.«01_k».proof.Proof.Words
public import proofs.«01_k».proof.Proof.Model

@[expose] public section

set_option maxRecDepth 16384

noncomputable section

namespace Cert.KernelBlock
open Cert.KernelIdeal Cert.KernelIdeal.Gen Idealize.ShloMosaic Cert.Words Cert.Blend Cert.Model
open Idealize.ShloMosaic.Pointwise

/-- The band numbers, as floats. -/
theorem bands_apply (b : Fin 128) (w : Fin 256) : k0_pay6 (F := Ideal) (ix2 b w) = (((b : ℕ) : ℝ) : EReal) := by
  pointwise [k0_pay6]
  exact sitofp_band b

/-- The position of a pixel. -/
theorem pix_apply (v : Vec Ideal S1x128x256 .f32) (b : Fin 128) (w : Fin 256) :
    k0_pay8 (k0_pay7 v) (0 : EReal) (Ideal.ofBits .f32 0x42FE0000#32) (ix2 b w)
      = pixE (((b : ℕ) : ℝ) : EReal) (v (ix3 0 b w)) := by
  pointwise [k0_pay7, k0_pay8, bands_apply, word_two, word_neg_two, word_last, word_half, word_scale, pixE]

variable (c : Dev nD) (arg2 : Memref sig .tc .vmem S1x128x64x256 .f32) (harg2 : arg2.IsWhole) (arg3 : Memref sig .tc .vmem S1x128x256 .f32) (harg3 : arg3.IsWhole)
    (x0 : Vec Ideal S1x128x64x256 .f32) (x1 : Vec Ideal S1x128x256 .f32)

/-- A row lies in the run of rows whose bounds hold its number. -/
theorem mem_rows {o n : ℕ} {inb} (y : S134x64x256.Idx) (hl : o ≤ (y 0 : ℕ)) (hu : (y 0 : ℕ) < o + n) :
    y ∈ (Rect.unit (s := S134x64x256) ![o, 0, 0] ![n, 64, 256] inb).set := by
  have b1 : (y 1 : ℕ) < 64 := (y 1).2
  have b2 : (y 2 : ℕ) < 256 := (y 2).2
  refine Rect.mem_set_unit.2 fun a => ?_
  match a with
  | 0 => exact ⟨hl, hu⟩
  | 1 => exact ⟨Nat.zero_le _, show (y 1 : ℕ) < 0 + 64 by omega⟩
  | 2 => exact ⟨Nat.zero_le _, show (y 2 : ℕ) < 0 + 256 by omega⟩

/-- The three runs of rows cover the padded image. -/
theorem padded_cover (y : S134x64x256.Idx) :
    ∃ p ∈ kernelRun0_A.sl.HS0_3 (F := Ideal) c arg2 harg2 x0, y ∈ p.1.set := by
  have b0 : (y 0 : ℕ) < 134 := (y 0).2
  unfold kernelRun0_A.sl.HS0_3
  rcases Nat.lt_or_ge (y 0 : ℕ) 3 with h | h
  · exact ⟨_, List.mem_cons_of_mem _ (List.mem_cons_self ..), mem_rows (inb := inb_S134x64x256_S3x64x256_0_0_0) y (Nat.zero_le _) (by omega)⟩
  · rcases Nat.lt_or_ge (y 0 : ℕ) 131 with h' | h'
    · exact ⟨_, List.mem_cons_of_mem _ (List.mem_cons_of_mem _ (List.mem_cons_self ..)), mem_rows (inb := inb_S134x64x256_S128x64x256_3_0_0) y h (by omega)⟩
    · exact ⟨_, List.mem_cons_self .., mem_rows (inb := inb_S134x64x256_S3x64x256_131_0_0) y h' (by omega)⟩

/-- The padded image's scratch holds, in row `r`, band `padRow r` of the block. -/
theorem padded_apply (y : S134x64x256.Idx) :
    View.canon (kernelRun0_A.sl.HS0_3 (F := Ideal) c arg2 harg2 x0) y = x0 (ix4 0 (padRow (y 0 : ℕ)) (y 1) (y 2)) := by
  have hcover := padded_cover c arg2 harg2 x0 y
  unfold kernelRun0_A.sl.HS0_3 at hcover ⊢
  canon_tiles x h using hcover
  all_goals
    rw [show y 1 = x 1 from Fin.ext h1, show y 2 = x 2 from Fin.ext h2]
    simp (disch := decide) only [View.ld_unit_lit', View.readAt_eq_ld, Memref.IsWhole.read_unread]
    pointwise [k0_pay2, k0_pay3, k0_pay4, k0_pay5]
    refine congrArg (fun r => x0 (ix4 0 r (x 1) (x 2))) (Fin.ext ?_)
    unfold padRow
    dsimp only
    split_ifs <;> omega

/-- The absolute value of an extended real. -/
theorem abs_eq (t : EReal) : FloatOps.absf (F := Ideal) (φ := .f32) t = max t (-t) := rfl

/-- The weight of one neighbour at one pixel, in the operations as printed. -/
theorem tap_eq (v : Vec Ideal S1x128x256 .f32) (b : Fin 128) (w : Fin 256) (t d : EReal)
    (h : t = (((b : ℕ) : ℝ) : EReal) + d) :
    max (1 - FloatOps.absf (F := Ideal) (φ := .f32)
      (k0_pay8 (k0_pay7 v) (0 : EReal) (Ideal.ofBits .f32 0x42FE0000#32) (ix2 b w) - t)) 0
      = weightE (((b : ℕ) : ℝ) : EReal) (v (ix3 0 b w)) d := by
  rw [pix_apply, abs_eq, h, weightE]

/-- The weights' scratch holds, at neighbour `k`, the weight of the band `k - 3` away. -/
theorem weights_apply (y : S7x128x16x256.Idx) :
    View.canon (kernelRun0_A.sl.HS1_7 (F := Ideal) c arg3 harg3 x1) y =
      weightE (((y 1 : ℕ) : ℝ) : EReal) (x1 (ix3 0 (y 1) (y 3))) ((((y 0 : ℕ) : ℝ) - 3 : ℝ) : EReal) := by
  unfold kernelRun0_A.sl.HS1_7
  canon_tiles x h
  all_goals
    rw [show y 1 = x 1 from Fin.ext h1, show y 3 = x 3 from Fin.ext h3, show (y 0 : ℕ) = _ from h0, show (x 0 : ℕ) = 0 by omega]
    pointwise [kernelRun0_A.sl.r, kernelRun0_A.sl.r_1, kernelRun0_A.sl.r_2, kernelRun0_A.sl.cst_18, kernelRun0_A.sl.cst_19,
      kernelRun0_A.sl.cst_52, k0_pay9, k0_pay10, k0_pay11, k0_pay12, k0_pay13, k0_pay14, k0_pay15, k0_pay16, k0_pay17, bands_apply]
    simp (disch := decide) only [View.ld_unit_lit', View.readAt_eq_ld, Memref.IsWhole.read_unread]
    refine tap_eq x1 (x 1) (x 3) _ _ ?_
    simp only [word_neg_three, word_neg_two, word_neg_one, word_two, word_three, ← EReal.coe_add, ← EReal.coe_one]
    refine congrArg _ ?_
    push_cast
    norm_num

/-- The sum over seven bands that the kernel writes at one pixel. -/
def tapSum (W : S7x128x16x256.Idx → EReal) (A : S134x64x256.Idx → EReal) (b : Fin 128) (h : Fin 64) (h' : Fin 16) (w : Fin 256) : EReal :=
  W (ix4 0 b h' w) * A (ix3 ⟨b, by omega⟩ h w) + W (ix4 1 b h' w) * A (ix3 ⟨b + 1, by omega⟩ h w)
    + W (ix4 2 b h' w) * A (ix3 ⟨b + 2, by omega⟩ h w) + W (ix4 3 b h' w) * A (ix3 ⟨b + 3, by omega⟩ h w)
    + W (ix4 4 b h' w) * A (ix3 ⟨b + 4, by omega⟩ h w) + W (ix4 5 b h' w) * A (ix3 ⟨b + 5, by omega⟩ h w)
    + W (ix4 6 b h' w) * A (ix3 ⟨b + 6, by omega⟩ h w)

variable (arg5 : Memref sig .tc .vmem S134x64x256 .bf16) (arg6 : Memref sig .tc .vmem S7x128x16x256 .bf16)

/-- A tile of weights read off the weights' scratch. -/
theorem readWeights (L1 : List (View.Piece (Elt Ideal) S7x128x16x256 .bf16)) (k b0 : ℕ) {i0} (x : S1x8x16x256.Idx)
    (k' : Fin 7) (b : Fin 128) (hk : (k' : ℕ) = k) (hb : (b : ℕ) = b0 + (x 1 : ℕ)) :
    arg6.view.readCov L1 (Rect.unit (s := S7x128x16x256) ![k, b0, 0, 0] S1x8x16x256.size i0).toLoadRect x =
      View.canon L1 (ix4 k' b (x 2) (x 3)) := by
  refine (congrFun (View.readCov_eq_canon' _ _ _) _).trans (congrArg (View.canon L1) (funext fun a => Fin.ext ?_))
  rw [Rect.idx_unit_val]
  match a with
  | 0 => exact (congrArg (k + ·) (Nat.lt_one_iff.1 (x 0).2)).trans hk.symm
  | 1 => exact hb.symm
  | 2 => exact Nat.zero_add _
  | 3 => exact Nat.zero_add _

/-- A tile of the image read off the padded image's scratch. -/
theorem readImage (L0 : List (View.Piece (Elt Ideal) S134x64x256 .bf16)) (o h0 : ℕ) {j0} (x : S1x8x16x256.Idx)
    (n : Fin 134) (h : Fin 64) (hn : (n : ℕ) = o + (x 1 : ℕ)) (hh : (h : ℕ) = h0 + (x 2 : ℕ)) :
    arg5.view.readCov L0 (Rect.unit (s := S134x64x256) ![o, h0, 0] S8x16x256.size j0).toLoadRect (ix3 (x 1) (x 2) (x 3)) =
      View.canon L0 (ix3 n h (x 3)) := by
  refine (congrFun (View.readCov_eq_canon' _ _ _) _).trans (congrArg (View.canon L0) (funext fun a => Fin.ext ?_))
  rw [Rect.idx_unit_val]
  match a with
  | 0 => exact hn.symm
  | 1 => exact hh.symm
  | 2 => exact Nat.zero_add _

/-- The payload of one tile, from seven tiles of weights and seven of the image. -/
def tile (w0 w1 w2 w3 w4 w5 w6 : FVec Ideal S1x8x16x256 .bf16) (a0 a1 a2 a3 a4 a5 a6 : FVec Ideal S8x16x256 .bf16) : FVec Ideal S1x8x16x256 .f32 :=
  shapeCast S1x8x16x256 (extf .f32 (addf (addf (addf (addf (addf (addf (mulf (shapeCast S8x16x256 w0 shapeCasts_S1x8x16x256_S8x16x256) a0)
      (mulf (shapeCast S8x16x256 w1 shapeCasts_S1x8x16x256_S8x16x256) a1))
      (mulf (shapeCast S8x16x256 w2 shapeCasts_S1x8x16x256_S8x16x256) a2))
      (mulf (shapeCast S8x16x256 w3 shapeCasts_S1x8x16x256_S8x16x256) a3))
      (mulf (shapeCast S8x16x256 w4 shapeCasts_S1x8x16x256_S8x16x256) a4))
      (mulf (shapeCast S8x16x256 w5 shapeCasts_S1x8x16x256_S8x16x256) a5))
      (mulf (shapeCast S8x16x256 w6 shapeCasts_S1x8x16x256_S8x16x256) a6)) bitsLt_bf16_f32) shapeCasts_S8x16x256_S1x8x16x256

/-- It is the sum of the seven products. -/
theorem tile_apply (w0 w1 w2 w3 w4 w5 w6 : FVec Ideal S1x8x16x256 .bf16) (a0 a1 a2 a3 a4 a5 a6 : FVec Ideal S8x16x256 .bf16) (x : S1x8x16x256.Idx) :
    tile w0 w1 w2 w3 w4 w5 w6 a0 a1 a2 a3 a4 a5 a6 x =
      (w0 x * a0 (ix3 (x 1) (x 2) (x 3))
        + w1 x * a1 (ix3 (x 1) (x 2) (x 3))
        + w2 x * a2 (ix3 (x 1) (x 2) (x 3))
        + w3 x * a3 (ix3 (x 1) (x 2) (x 3))
        + w4 x * a4 (ix3 (x 1) (x 2) (x 3))
        + w5 x * a5 (ix3 (x 1) (x 2) (x 3))
        + w6 x * a6 (ix3 (x 1) (x 2) (x 3)) : EReal) := by
  pointwise [tile]

/-- The payload of one tile of the kernel's block, in terms of what the two scratches hold. -/
theorem piece (L0 : List (View.Piece (Elt Ideal) S134x64x256 .bf16)) (L1 : List (View.Piece (Elt Ideal) S7x128x16x256 .bf16))
    (b0 h0 o0 o1 o2 o3 o4 o5 o6 : ℕ) {i0 i1 i2 i3 i4 i5 i6 j0 j1 j2 j3 j4 j5 j6} (x : S1x8x16x256.Idx) (b : Fin 128) (h : Fin 64)
    (eb : (b : ℕ) = b0 + (x 1 : ℕ)) (eh : (h : ℕ) = h0 + (x 2 : ℕ))
    (e0 : o0 = b0) (e1 : o1 = b0 + 1) (e2 : o2 = b0 + 2) (e3 : o3 = b0 + 3) (e4 : o4 = b0 + 4) (e5 : o5 = b0 + 5) (e6 : o6 = b0 + 6) :
    tile (arg6.view.readCov L1 (Rect.unit (s := S7x128x16x256) ![0, b0, 0, 0] S1x8x16x256.size i0).toLoadRect)
      (arg6.view.readCov L1 (Rect.unit (s := S7x128x16x256) ![1, b0, 0, 0] S1x8x16x256.size i1).toLoadRect)
      (arg6.view.readCov L1 (Rect.unit (s := S7x128x16x256) ![2, b0, 0, 0] S1x8x16x256.size i2).toLoadRect)
      (arg6.view.readCov L1 (Rect.unit (s := S7x128x16x256) ![3, b0, 0, 0] S1x8x16x256.size i3).toLoadRect)
      (arg6.view.readCov L1 (Rect.unit (s := S7x128x16x256) ![4, b0, 0, 0] S1x8x16x256.size i4).toLoadRect)
      (arg6.view.readCov L1 (Rect.unit (s := S7x128x16x256) ![5, b0, 0, 0] S1x8x16x256.size i5).toLoadRect)
      (arg6.view.readCov L1 (Rect.unit (s := S7x128x16x256) ![6, b0, 0, 0] S1x8x16x256.size i6).toLoadRect)
      (arg5.view.readCov L0 (Rect.unit (s := S134x64x256) ![o0, h0, 0] S8x16x256.size j0).toLoadRect)
      (arg5.view.readCov L0 (Rect.unit (s := S134x64x256) ![o1, h0, 0] S8x16x256.size j1).toLoadRect)
      (arg5.view.readCov L0 (Rect.unit (s := S134x64x256) ![o2, h0, 0] S8x16x256.size j2).toLoadRect)
      (arg5.view.readCov L0 (Rect.unit (s := S134x64x256) ![o3, h0, 0] S8x16x256.size j3).toLoadRect)
      (arg5.view.readCov L0 (Rect.unit (s := S134x64x256) ![o4, h0, 0] S8x16x256.size j4).toLoadRect)
      (arg5.view.readCov L0 (Rect.unit (s := S134x64x256) ![o5, h0, 0] S8x16x256.size j5).toLoadRect)
      (arg5.view.readCov L0 (Rect.unit (s := S134x64x256) ![o6, h0, 0] S8x16x256.size j6).toLoadRect) x =
      tapSum (View.canon L1) (View.canon L0) b h (x 2) (x 3) := by
  refine (tile_apply _ _ _ _ _ _ _ _ _ _ _ _ _ _ x).trans ?_
  unfold tapSum
  refine congrArg₂ (fun s t : EReal => s + t) ?_ (congrArg₂ (fun s t : EReal => s * t) (readWeights arg6 L1 _ _ x _ _ rfl eb) (readImage arg5 L0 _ _ x _ _ (by dsimp only; omega) eh))
  refine congrArg₂ (fun s t : EReal => s + t) ?_ (congrArg₂ (fun s t : EReal => s * t) (readWeights arg6 L1 _ _ x _ _ rfl eb) (readImage arg5 L0 _ _ x _ _ (by dsimp only; omega) eh))
  refine congrArg₂ (fun s t : EReal => s + t) ?_ (congrArg₂ (fun s t : EReal => s * t) (readWeights arg6 L1 _ _ x _ _ rfl eb) (readImage arg5 L0 _ _ x _ _ (by dsimp only; omega) eh))
  refine congrArg₂ (fun s t : EReal => s + t) ?_ (congrArg₂ (fun s t : EReal => s * t) (readWeights arg6 L1 _ _ x _ _ rfl eb) (readImage arg5 L0 _ _ x _ _ (by dsimp only; omega) eh))
  refine congrArg₂ (fun s t : EReal => s + t) ?_ (congrArg₂ (fun s t : EReal => s * t) (readWeights arg6 L1 _ _ x _ _ rfl eb) (readImage arg5 L0 _ _ x _ _ (by dsimp only; omega) eh))
  refine congrArg₂ (fun s t : EReal => s + t) ?_ (congrArg₂ (fun s t : EReal => s * t) (readWeights arg6 L1 _ _ x _ _ rfl eb) (readImage arg5 L0 _ _ x _ _ (by dsimp only; omega) eh))
  exact congrArg₂ (fun s t : EReal => s * t) (readWeights arg6 L1 _ _ x _ _ rfl eb) (readImage arg5 L0 _ _ x _ _ (by dsimp only; omega) eh)

set_option maxHeartbeats 4000000 in
/-- The tiles the body writes leave, at every index, the sum over seven neighbours of weight times image. -/
theorem canon_kernelRun (i : grid0.Coords) (arg4 : Memref sig .tc .vmem S1x128x64x256 .f32) (harg4 : arg4.IsWhole) (harg5 : arg5.IsWhole) (harg6 : arg6.IsWhole) (y : S1x128x64x256.Idx) :
   View.canon (kernelRun0_A (F := Ideal) c i arg2 harg2 arg3 harg3 arg4 harg4 arg5 harg5 arg6 harg6 x0 x1).1 y =
     tapSum (View.canon (kernelRun0_A.sl.HS1_7 (F := Ideal) c arg3 harg3 x1)) (View.canon (kernelRun0_A.sl.HS0_3 (F := Ideal) c arg2 harg2 x0)) (y 1) (y 2)
       ⟨(y 2 : ℕ) % 16, Nat.mod_lt _ (by decide)⟩ (y 3) := by
  unfold kernelRun0_A
  dsimp only
  canon_tiles x h
  all_goals
    rw [show y 3 = x 3 from Fin.ext h3, show (⟨(y 2 : ℕ) % 16, Nat.mod_lt _ (by decide)⟩ : Fin 16) = x 2 from Fin.ext (by dsimp only; omega)]
    refine piece arg5 arg6 (kernelRun0_A.sl.HS0_3 (F := Ideal) c arg2 harg2 x0) (kernelRun0_A.sl.HS1_7 (F := Ideal) c arg3 harg3 x1) _ _ _ _ _ _ _ _ _ x (y 1) (y 2)
      ?_ ?_ ?_ ?_ ?_ ?_ ?_ ?_ ?_ <;> omega

/-- The sum over seven neighbours, over scratches that hold the weights and the padded block, is the interpolation. -/
theorem tapSum_eq (y : S1x128x64x256.Idx) (r : Fin 16) :
    tapSum (View.canon (kernelRun0_A.sl.HS1_7 (F := Ideal) c arg3 harg3 x1))
        (View.canon (kernelRun0_A.sl.HS0_3 (F := Ideal) c arg2 harg2 x0)) (y 1) (y 2) r (y 3)
      = interpolate (fun n => x0 (ix4 0 n (y 2) (y 3))) (y 1) (x1 (ix3 0 (y 1) (y 3))) := by
  unfold tapSum
  simp only [padded_apply, weights_apply]
  exact taps_eq (fun n => x0 (ix4 0 n (y 2) (y 3))) (y 1) (x1 (ix3 0 (y 1) (y 3))) (fun k => ((k : ℕ) : ℝ) - 3) (fun _ => rfl)

/-- The output block of one grid point, from its two input blocks. -/
theorem block_apply (i : grid0.Coords) (arg4 : Memref sig .tc .vmem S1x128x64x256 .f32) (harg4 : arg4.IsWhole)
    (harg5 : arg5.IsWhole) (harg6 : arg6.IsWhole) (y : S1x128x64x256.Idx) :
    out0_A_2 (F := Ideal) c i arg2 harg2 arg3 harg3 arg4 harg4 arg5 harg5 arg6 harg6 x0 x1 y
      = interpolate (fun n => x0 (ix4 0 n (y 2) (y 3))) (y 1) (x1 (ix3 0 (y 1) (y 3))) := by
  unfold out0_A_2
  rw [View.read_writes_junk_eq_canon]
  exact (canon_kernelRun c arg2 harg2 arg3 harg3 x0 x1 arg5 arg6 i arg4 harg4 harg5 harg6 y).trans
    (tapSum_eq c arg2 harg2 arg3 harg3 x0 x1 y _)

end Cert.KernelBlock
-- ==== Proof.KernelArray.lean ====
/- The kernel's run: its result array ends holding, at every index, the linear interpolation along the bands of the
   first argument, at the position that the second argument's shift gives. -/
module

public import proofs.«01_k».proof.Proof.KernelBlock
public import proofs.«01_k».proof.Proof.Gen.KernelIdeal.Value

@[expose] public section

set_option maxRecDepth 16384

noncomputable section

namespace Cert.KernelArray

open Cert.KernelIdeal Cert.KernelIdeal.Gen Cert.Model Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (ρ : Dev nD → PrngReg)

/-- The result as a function of the two argument arrays. -/
def result (X : FVec Ideal S2x128x256x256 .f32) (S : FVec Ideal S2x128x256 .f32) : FVec Ideal S2x128x256x256 .f32 :=
  fun y => interpolate (fun n => X (ix4 (y 0) n (y 2) (y 3))) (y 1) (S (ix3 (y 0) (y 1) (y 3)))

/-- The three windows' block indices at each grid point: batch `t / 4` and rows `t % 4`. -/
theorem idx : ∀ t : Fin cfg0.N, win0_0.index t = ![t.val / 4, 0, t.val % 4, 0] ∧ win0_1.index t = ![t.val / 4, 0, 0]
    ∧ win0_2.index t = ![t.val / 4, 0, t.val % 4, 0] :=
  (by decide +kernel : ∀ t : Fin grid0.N, _)

/-- After the run the result array is `result` of the arguments. -/
theorem final (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [KernelBlock.block_apply]
  unfold result
  refine congr (congr (congrArg interpolate (funext fun n => ?_)) ?_) ?_
  · blk_ext [iblk, V, idx t]
  · refine Fin.ext (Eq.symm ?_)
    blk_simp [idx t]
  · blk_ext [iblk, V, idx t]

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.KernelIdeal.Value.run_blocks m ρ)

end Cert.KernelArray
-- ==== Proof.Reference.lean ====
/- What the reference's composed term computes at an index: the linear interpolation along the bands. -/
module

public import proofs.«01_k».proof.Proof.Gen.ReferenceIdeal.Run
public import Idealize.ShloMosaic.Lib.Pointwise
public import Idealize.ShloMosaic.Lib.ReduceAll
public import proofs.«01_k».proof.Proof.Words
public import proofs.«01_k».proof.Proof.Model

@[expose] public section

set_option maxRecDepth 16384

noncomputable section

namespace Cert.RefTerm

open Cert.ReferenceIdeal Cert.ReferenceIdeal.Gen Cert.Model Cert.Blend Cert.Words
open Idealize.ShloMosaic Idealize.ShloMosaic.TcCoe
open Idealize.ShloMosaic.Pointwise

/-! ## The stages of the reference -/

/-- The positions of all pixels. -/
def positions (S : FVec Ideal S2x128x256 .f32) : FVec Ideal S2x128x256x256 .f32 :=
  minimumf (broadcastInDim S2x128x256x256 ![] bcast_S_S2x128x256x256 (id (constant S_ .f32 0x42FE0000#32)))
    (maximumf (broadcastInDim S2x128x256x256 ![] bcast_S_S2x128x256x256 (id (constant S_ .f32 0x00000000#32)))
      (subf
        (mulf
          (minimumf (broadcastInDim S2x128x256x256 ![] bcast_S_S2x128x256x256 (id (constant S_ .f32 0x42FE0000#32)))
            (maximumf (broadcastInDim S2x128x256x256 ![] bcast_S_S2x128x256x256 (id (constant S_ .f32 0x00000000#32)))
              (addf
                (broadcastInDim S2x128x256x256 ![0, 1, 2, 3] bcast_S1x128x1x1_S2x128x256x256_0_1_2_3
                  (shapeCast _ (sitofp .f32 (iotaInDim S128 32 0)) shapeCasts_S128_S1x128x1x1))
                (broadcastInDim S2x128x256x256 ![0, 1, 2, 3] bcast_S2x128x1x256_S2x128x256x256_0_1_2_3
                  (broadcastInDim S2x128x1x256 ![0, 1, 3] bcast_S2x128x256_S2x128x1x256_0_1_3
                    (minimumf (broadcastInDim S2x128x256 ![] bcast_S_S2x128x256 (id (constant S_ .f32 0x40000000#32)))
                      (maximumf (broadcastInDim S2x128x256 ![] bcast_S_S2x128x256 (id (constant S_ .f32 0xC0000000#32)))
                        S)))))))
          (broadcastInDim S2x128x256x256 ![] bcast_S_S2x128x256x256 (constant S_ .f32 0x3F810204#32)))
        (broadcastInDim S2x128x256x256 ![] bcast_S_S2x128x256x256 (constant S_ .f32 0x3F000000#32))))

/-- Integers cut to `[0, 127]`. -/
def clip (I : IVec S2x128x256x256 32) : IVec S2x128x256x256 32 :=
  minsi (broadcastInDim S2x128x256x256 ![] bcast_S_S2x128x256x256 (id (constantI S_ 32 127#32)))
    (maxsi (broadcastInDim S2x128x256x256 ![] bcast_S_S2x128x256x256 (id (constantI S_ 32 0#32))) I)

/-- The numbers of the lower bands. -/
def lows (P : FVec Ideal S2x128x256x256 .f32) : IVec S2x128x256x256 32 := clip (fptosi 32 (Host.floor P))

/-- The numbers of the upper bands. -/
def highs (I : IVec S2x128x256x256 32) : IVec S2x128x256x256 32 :=
  clip (addi I (broadcastInDim S2x128x256x256 ![] bcast_S_S2x128x256x256 (constantI S_ 32 1#32)))

/-- Band numbers as start indices: a negative number would count from the end. -/
def starts (I : IVec S2x128x256x256 32) : IVec S2x128x256x256x1 32 :=
  shapeCast _ (select (cmpi .slt I (broadcastInDim S2x128x256x256 ![] bcast_S_S2x128x256x256 (constantI S_ 32 0#32)))
    (addi I (broadcastInDim S2x128x256x256 ![] bcast_S_S2x128x256x256 (constantI S_ 32 128#32))) I)
    shapeCasts_S2x128x256x256_S2x128x256x256x1

/-- Which start indices are in range. -/
def inRange (J : IVec S2x128x256x256x1 32) : IVec S2x128x256x256 1 :=
  Host.reduce IntOp.andi
    (andi (cmpi .sge J (broadcastInDim S2x128x256x256x1 ![] bcast_S_S2x128x256x256x1 (constantI S_ 32 0#32)))
      (cmpi .sle J (broadcastInDim S2x128x256x256x1 ![0, 1, 2, 3, 4] bcast_S1x1x1x1x1_S2x128x256x256x1_0_1_2_3_4
        (broadcastInDim S1x1x1x1x1 ![4] bcast_S1_S1x1x1x1x1_4 (constantI S1 32 127#32)))))
    (constantI S_ 1 1#1) reducesTo_S2x128x256x256x1_S2x128x256x256_d4 h_S_

/-- The image read at the start indices; at one out of range, the fill value. -/
def taken (X : FVec Ideal S2x128x256x256 .f32) (J : IVec S2x128x256x256x1 32) : FVec Ideal S2x128x256x256 .f32 :=
  select (inRange J)
    (Host.gather gather_S2x128x256x256_S2x128x256x256x1_S2x128x256x256_n_1_023_023_1_4_1111 X J)
    (broadcastInDim S2x128x256x256 ![] bcast_S_S2x128x256x256 (constant S_ .f32 0x7FC00000#32))

/-- The two bands read at every pixel, weighted by the position's fraction. -/
def blended (X P : FVec Ideal S2x128x256x256 .f32) : FVec Ideal S2x128x256x256 .f32 :=
  addf (mulf (taken X (starts (lows P)))
      (subf (broadcastInDim S2x128x256x256 ![] bcast_S_S2x128x256x256 (constant S_ .f32 0x3F800000#32)) (subf P (Host.floor P))))
    (mulf (taken X (starts (highs (lows P)))) (subf P (Host.floor P)))

/-- The reference's composed term is these stages, one after the other. -/
theorem res_eq (m : (ℓ : Loc nD τ sig) → Buf (Elt Ideal) ℓ) (c : Dev nD) :
    Cert.ReferenceIdeal.Value.res_main_v26 m c
      = blended (m ((c.tc : Thread nD τ).loc main_arg0)) (positions (m ((c.tc : Thread nD τ).loc main_arg1))) := by
  unfold Cert.ReferenceIdeal.Value.res_main_v26
  rfl

/-! ## Each stage at an index -/

/-- The position of a pixel. -/
theorem positions_apply (S : FVec Ideal S2x128x256 .f32) (y : S2x128x256x256.Idx) :
    positions S y = ((position (y 1) (S (ix3 (y 0) (y 1) (y 3))) : ℝ) : EReal) := by
  refine Eq.trans ?_ (position_spec (y 1) (S (ix3 (y 0) (y 1) (y 3)))).1
  pointwise [positions, id]
  rw [show FloatOps.sitofp (F := Ideal) .f32 (BitVec.ofNat 32 (y 1 : ℕ)) = _ from sitofp_band (y 1), word_last, word_two,
    word_neg_two, word_scale, word_half]
  rfl

/-- Cutting the words of 0 … 128 to `[0, 127]`. -/
theorem clip_word : ∀ n : Fin 129, IntOp.minsi (127#32) (IntOp.maxsi (0#32) (BitVec.ofNat 32 (n : ℕ)))
    = BitVec.ofNat 32 (min (n : ℕ) 127) := by decide

/-- The word of a floor in `[0, 127]`. -/
theorem floor_word (p : ℝ) (h0 : 0 ≤ p) (h1 : p ≤ 127) :
    FloatOps.fptosi (F := Ideal) (φ := .f32) 32 (Ideal.liftRound Int.floor (p : EReal)) = BitVec.ofNat 32 ⌊p⌋.toNat := by
  have g0 : 0 ≤ ⌊p⌋ := Int.floor_nonneg.2 h0
  have g1 : ⌊p⌋ ≤ 127 := Int.floor_le_iff.2 (by push_cast; linarith)
  show BitVec.ofInt 32 (Ideal.toIntClamped _ _ (Ideal.liftRound Int.floor (p : EReal))) = _
  rw [Ideal.liftRound_coe, Ideal.toIntClamped_coe, if_pos (Int.cast_nonneg g0), Int.floor_intCast]
  generalize ⌊p⌋ = q at g0 g1
  obtain ⟨n, rfl⟩ := Int.eq_ofNat_of_zero_le g0
  rw [min_eq_right (by norm_num; omega), max_eq_right (by norm_num)]
  exact BitVec.ofInt_natCast ..

/-- The number of the lower band of a pixel. -/
theorem lows_apply (P : FVec Ideal S2x128x256x256 .f32) (y : S2x128x256x256.Idx) (p : ℝ) (hp : P y = (p : EReal))
    (h0 : 0 ≤ p) (h1 : p ≤ 127) : lows P y = BitVec.ofNat 32 (lower p : ℕ) := by
  have g1 : ⌊p⌋ ≤ 127 := Int.floor_le_iff.2 (by push_cast; linarith)
  pointwise [lows, clip, id]
  rw [hp, floor_word p h0 h1]
  exact clip_word ⟨⌊p⌋.toNat, by omega⟩

/-- The number of the upper band of a pixel. -/
theorem highs_apply (I : IVec S2x128x256x256 32) (y : S2x128x256x256.Idx) (p : ℝ) (hI : I y = BitVec.ofNat 32 (lower p : ℕ))
    (h0 : 0 ≤ p) (h1 : p ≤ 127) : highs I y = BitVec.ofNat 32 (upper p : ℕ) := by
  have g1 : ⌊p⌋ ≤ 127 := Int.floor_le_iff.2 (by push_cast; linarith)
  pointwise [highs, clip, id]
  rw [hI, show IntOp.addi (BitVec.ofNat 32 (lower p : ℕ)) 1#32 = BitVec.ofNat 32 ((lower p : ℕ) + 1) from (BitVec.ofNat_add ..).symm]
  refine (clip_word ⟨(lower p : ℕ) + 1, by omega⟩).trans (congrArg (BitVec.ofNat 32) ?_)
  show min (min ⌊p⌋.toNat 127 + 1) 127 = min (⌊p⌋.toNat + 1) 127
  omega

/-- The word of a band number is not negative. -/
theorem band_nonneg : ∀ n : Fin 128, IntOp.cmpi .slt (BitVec.ofNat 32 (n : ℕ)) 0#32 = 0#1 := by decide

/-- The word of a band number is in range. -/
theorem band_in_range : ∀ n : Fin 128, IntOp.andi (IntOp.cmpi .sge (BitVec.ofNat 32 (n : ℕ)) 0#32)
    (IntOp.cmpi .sle (BitVec.ofNat 32 (n : ℕ)) 127#32) = 1#1 := by decide

/-- The start index of a pixel, as a number. -/
theorem band_toNat : ∀ n : Fin 128, min (BitVec.ofNat 32 (n : ℕ)).toInt.toNat 127 = (n : ℕ) := by decide

/-- The start index of a pixel is the band number. -/
theorem starts_apply (I : IVec S2x128x256x256 32) (y : S2x128x256x256x1.Idx) (n : Fin 128)
    (h : I (ix4 (y 0) (y 1) (y 2) (y 3)) = BitVec.ofNat 32 (n : ℕ)) : starts I y = BitVec.ofNat 32 (n : ℕ) := by
  pointwise [starts]
  rw [h, band_nonneg n]
  rfl

/-- The gather reads, at a pixel, the pixel's column at its start index, cut to the bands there are. -/
theorem gather_apply (X : FVec Ideal S2x128x256x256 .f32) (J : IVec S2x128x256x256x1 32) (y : S2x128x256x256.Idx) :
    Host.gather gather_S2x128x256x256_S2x128x256x256x1_S2x128x256x256_n_1_023_023_1_4_1111 X J y
      = X (ix4 (y 0) ⟨min (J (ix5 (y 0) (y 1) (y 2) (y 3) 0)).toInt.toNat 127, by omega⟩ (y 2) (y 3)) := by
  unfold Host.gather
  congr 1
  funext a
  refine Fin.ext ?_
  show GatherDims.start _ y J a + GatherDims.batchCoord _ y a + GatherDims.offCoord _ y a = _
  match a with
  | 1 =>
    rw [GatherDims.batchCoord_eq_zero _ _ _ (by decide), GatherDims.offCoord_eq_zero _ _ _ (by decide)]
    simp only [Nat.add_zero]
    unfold GatherDims.start
    rw [dif_pos (by decide)]
    refine congrArg (fun j => min (J j).toInt.toNat 127) (funext fun b => Fin.ext ?_)
    match b with
    | 0 => rfl
    | 1 => rfl
    | 2 => rfl
    | 3 => rfl
    | 4 => rfl
  | 0 =>
    rw [GatherDims.start_batching _ _ _ _ (by decide), GatherDims.offCoord_eq_zero _ _ _ (by decide)]
    simp only [Nat.zero_add, Nat.add_zero]
    unfold GatherDims.batchCoord
    rw [dif_pos (by decide)]
    rfl
  | 2 =>
    rw [GatherDims.start_batching _ _ _ _ (by decide), GatherDims.offCoord_eq_zero _ _ _ (by decide)]
    simp only [Nat.zero_add, Nat.add_zero]
    unfold GatherDims.batchCoord
    rw [dif_pos (by decide)]
    rfl
  | 3 =>
    rw [GatherDims.start_batching _ _ _ _ (by decide), GatherDims.offCoord_eq_zero _ _ _ (by decide)]
    simp only [Nat.zero_add, Nat.add_zero]
    unfold GatherDims.batchCoord
    rw [dif_pos (by decide)]
    rfl

/-- Band numbers are all in range. -/
theorem inRange_apply (J : IVec S2x128x256x256x1 32) (h : ∀ i, ∃ n : Fin 128, J i = BitVec.ofNat 32 (n : ℕ))
    (y : S2x128x256x256.Idx) : inRange J y = 1#1 := by
  refine Host.reduce_andi_one _ _ _ _ _ rfl fun i => ?_
  obtain ⟨n, hn⟩ := h i
  pointwise
  rw [hn]
  exact band_in_range n

/-- The image read at band numbers: the pixel's column at its band. -/
theorem taken_apply (X : FVec Ideal S2x128x256x256 .f32) (I : IVec S2x128x256x256 32) (n : S2x128x256x256.Idx → Fin 128)
    (h : ∀ z, I z = BitVec.ofNat 32 (n z : ℕ)) (y : S2x128x256x256.Idx) :
    taken X (starts I) y = X (ix4 (y 0) (n y) (y 2) (y 3)) := by
  pointwise [taken]
  rw [inRange_apply _ (fun i => ⟨_, starts_apply I i _ (h _)⟩), gather_apply]
  refine congrArg (fun r => X (ix4 (y 0) r (y 2) (y 3))) (Fin.ext ?_)
  dsimp only
  rw [starts_apply I (ix5 (y 0) (y 1) (y 2) (y 3) 0) (n y) ((congrArg I (eq_ix4 y).symm).trans (h y))]
  exact band_toNat (n y)

/-- A blend of two arrays at an index, from the position and the two arrays' entries there. -/
theorem blend_apply (A P B : FVec Ideal S2x128x256x256 .f32) (y : S2x128x256x256.Idx) (p : ℝ) (a b : EReal)
    (hp : P y = (p : EReal)) (ha : A y = a) (hb : B y = b) :
    addf (mulf A
        (subf (broadcastInDim S2x128x256x256 ![] bcast_S_S2x128x256x256 (constant S_ .f32 0x3F800000#32)) (subf P (Host.floor P))))
      (mulf B (subf P (Host.floor P))) y = a * (1 - fraction p) + b * fraction p := by
  pointwise
  rw [ha, hb, hp, Ideal.liftRound_coe, ← EReal.coe_sub]
  rfl

/-- The lower band of each pixel. -/
def lowBand (S : FVec Ideal S2x128x256 .f32) (z : S2x128x256x256.Idx) : Fin 128 := lower (position (z 1) (S (ix3 (z 0) (z 1) (z 3))))

/-- The upper band of each pixel. -/
def highBand (S : FVec Ideal S2x128x256 .f32) (z : S2x128x256x256.Idx) : Fin 128 := upper (position (z 1) (S (ix3 (z 0) (z 1) (z 3))))

/-- The reference's lower band numbers. -/
theorem lowBand_apply (S : FVec Ideal S2x128x256 .f32) (z : S2x128x256x256.Idx) :
    lows (positions S) z = BitVec.ofNat 32 (lowBand S z : ℕ) := by
  have hp := position_spec (z 1) (S (ix3 (z 0) (z 1) (z 3)))
  exact lows_apply _ z _ (positions_apply S z) hp.2.1 hp.2.2.1

/-- The reference's upper band numbers. -/
theorem highBand_apply (S : FVec Ideal S2x128x256 .f32) (z : S2x128x256x256.Idx) :
    highs (lows (positions S)) z = BitVec.ofNat 32 (highBand S z : ℕ) := by
  have hp := position_spec (z 1) (S (ix3 (z 0) (z 1) (z 3)))
  exact highs_apply _ z _ (lowBand_apply S z) hp.2.1 hp.2.2.1

/-- The reference's result at a pixel is the linear interpolation of its column. -/
theorem blended_apply (X : FVec Ideal S2x128x256x256 .f32) (S : FVec Ideal S2x128x256 .f32) (y : S2x128x256x256.Idx) :
    blended X (positions S) y
      = interpolate (fun n => X (ix4 (y 0) n (y 2) (y 3))) (y 1) (S (ix3 (y 0) (y 1) (y 3))) :=
  blend_apply (taken X (starts (lows (positions S)))) (positions S) (taken X (starts (highs (lows (positions S))))) y
    (position (y 1) (S (ix3 (y 0) (y 1) (y 3)))) _ _ (positions_apply S y)
    (taken_apply X (lows (positions S)) (lowBand S) (lowBand_apply S) y)
    (taken_apply X (highs (lows (positions S))) (highBand S) (highBand_apply S) y)

end Cert.RefTerm
-- ==== Proof.Equation.lean ====
/- The kernel and the reference, side by side: both runs leave the same result array. -/
module

public import proofs.«01_k».proof.Defs
public import proofs.«01_k».proof.Proof.KernelArray
public import proofs.«01_k».proof.Proof.Reference
public import Idealize.ShloMosaic.Lib.Quiescent

@[expose] public section

noncomputable section

namespace Cert.Equation

open Idealize.ShloMosaic Idealize.ShloMosaic.TcCoe Idealize.SL.Sem

/-- The reference's term of two arguments is the kernel's result of them. -/
theorem reference_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v26 m c
      = Cert.KernelArray.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) :=
  (Cert.RefTerm.res_eq m c).trans (funext fun y => Cert.RefTerm.blended_apply _ _ y)

/-- The reference runs, leaves its arguments alone and every counter at zero. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- From memories that agree on the arguments, kernel and reference end with the same result array. -/
theorem algebraic : Cert.algebraic_KernelIdeal_ReferenceIdeal := by
  intro m ρ m' ρ' _ hagree
  refine ⟨fun c => Cert.KernelArray.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelArray.run m ρ, ?_⟩
  refine (θ_run Cert.ReferenceIdeal.defs _ _).mono (fun r h c => ⟨?_, (h c).2⟩) (Cert.ReferenceIdeal.Value.run (F := Ideal) m' ρ')
  rw [(h c).1, reference_eq m' c, (hagree c).1, (hagree c).2]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the three frames, the idealization (which rewrote nothing), and the equation of results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Equation.frame_reference,
    trivial, Cert.Equation.algebraic⟩

end Cert.Proof

end
